-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S3584x4096 : Shape := ⟨2, ![3584, 4096]⟩
abbrev S3584x64 : Shape := ⟨2, ![3584, 64]⟩
abbrev S3584 : Shape := ⟨1, ![3584]⟩
abbrev S256x8192 : Shape := ⟨2, ![256, 8192]⟩
abbrev S64x3584 : Shape := ⟨2, ![64, 3584]⟩
abbrev S1x3584 : Shape := ⟨2, ![1, 3584]⟩
abbrev S256x3584 : Shape := ⟨2, ![256, 3584]⟩
abbrev S512x4096 : Shape := ⟨2, ![512, 4096]⟩
abbrev S64x512 : Shape := ⟨2, ![64, 512]⟩
abbrev S1x512 : Shape := ⟨2, ![1, 512]⟩
abbrev S256x512 : Shape := ⟨2, ![256, 512]⟩
abbrev S8192x512 : Shape := ⟨2, ![8192, 512]⟩
abbrev S512x512 : Shape := ⟨2, ![512, 512]⟩
abbrev S512x1x512 : Shape := ⟨3, ![512, 1, 512]⟩
abbrev S512x2x512 : Shape := ⟨3, ![512, 2, 512]⟩
abbrev S1024x512 : Shape := ⟨2, ![1024, 512]⟩
abbrev S8x128x512 : Shape := ⟨3, ![8, 128, 512]⟩
abbrev S8x512 : Shape := ⟨2, ![8, 512]⟩
abbrev S8x1x512 : Shape := ⟨3, ![8, 1, 512]⟩
abbrev S256x1x3584 : Shape := ⟨3, ![256, 1, 3584]⟩

abbrev nBuf : Space → Nat
  | .hbm => 13
  | .vmem => 12
  | .smem => 0
  | _ => 0

abbrev bufTy : (tb : Table) → Fin (tcTables nBuf tb) → BufTy
  | .hbm, ⟨0, _⟩ => ⟨S256x1x8192, .bf16⟩
  | .hbm, ⟨1, _⟩ => ⟨S3584x4096, .i8⟩
  | .hbm, ⟨2, _⟩ => ⟨S3584x64, .bf16⟩
  | .hbm, ⟨3, _⟩ => ⟨S3584x64, .i8⟩
  | .hbm, ⟨4, _⟩ => ⟨S3584, .f32⟩
  | .hbm, ⟨5, _⟩ => ⟨S256x8192, .bf16⟩
  | .hbm, ⟨6, _⟩ => ⟨S64x3584, .bf16⟩
  | .hbm, ⟨7, _⟩ => ⟨S3584x64, .i32⟩
  | .hbm, ⟨8, _⟩ => ⟨S3584x64, .bf16⟩
  | .hbm, ⟨9, _⟩ => ⟨S64x3584, .bf16⟩
  | .hbm, ⟨10, _⟩ => ⟨S1x3584, .f32⟩
  | .hbm, ⟨11, _⟩ => ⟨S256x3584, .bf16⟩
  | .hbm, ⟨12, _⟩ => ⟨S256x1x3584, .bf16⟩
  | .local _ .vmem, ⟨0, _⟩ => ⟨S256x8192, .bf16⟩
  | .local _ .vmem, ⟨1, _⟩ => ⟨S512x4096, .i8⟩
  | .local _ .vmem, ⟨2, _⟩ => ⟨S512x4096, .i8⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S1x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S8192x512, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x8192 : Shape := ⟨3, ![256, 1, 8192]⟩
abbrev S3584x4096 : Shape := ⟨2, ![3584, 4096]⟩
abbrev S3584x64 : Shape := ⟨2, ![3584, 64]⟩
abbrev S3584 : Shape := ⟨1, ![3584]⟩
abbrev S_ : Shape := ⟨0, ![]⟩
abbrev S3584x4096x1 : Shape := ⟨3, ![3584, 4096, 1]⟩
abbrev S3584x4096x2 : Shape := ⟨3, ![3584, 4096, 2]⟩
abbrev S3584x64x128 : Shape := ⟨3, ![3584, 64, 128]⟩
abbrev S3584x64x1 : Shape := ⟨3, ![3584, 64, 1]⟩
abbrev S3584x8192 : Shape := ⟨2, ![3584, 8192]⟩
abbrev S256x1x3584 : Shape := ⟨3, ![256, 1, 3584]⟩
abbrev S1x1x3584 : Shape := ⟨3, ![1, 1, 3584]⟩

abbrev nBuf : Space → Nat
  | .hbm => 31
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S3584x4096, .i8⟩
  | .hbm, ⟨2, _⟩ => ⟨S3584x64, .bf16⟩
  | .hbm, ⟨3, _⟩ => ⟨S3584x64, .i8⟩
  | .hbm, ⟨4, _⟩ => ⟨S3584, .f32⟩
  | .hbm, ⟨5, _⟩ => ⟨S3584x4096, .i32⟩
  | .hbm, ⟨6, _⟩ => ⟨S_, .i32⟩
  | .hbm, ⟨7, _⟩ => ⟨S3584x4096, .i32⟩
  | .hbm, ⟨8, _⟩ => ⟨S3584x4096, .i32⟩
  | .hbm, ⟨9, _⟩ => ⟨S_, .i32⟩
  | .hbm, ⟨10, _⟩ => ⟨S3584x4096, .i32⟩
  | .hbm, ⟨11, _⟩ => ⟨S3584x4096, .i32⟩
  | .hbm, ⟨12, _⟩ => ⟨S3584x4096x1, .i32⟩
  | .hbm, ⟨13, _⟩ => ⟨S3584x4096x1, .i32⟩
  | .hbm, ⟨14, _⟩ => ⟨S3584x4096x2, .i32⟩
  | .hbm, ⟨15, _⟩ => ⟨S3584x64x128, .i32⟩
  | .hbm, ⟨16, _⟩ => ⟨S3584x64, .i32⟩
  | .hbm, ⟨17, _⟩ => ⟨S3584x64x128, .bf16⟩
  | .hbm, ⟨18, _⟩ => ⟨S3584x64, .bf16⟩
  | .hbm, ⟨19, _⟩ => ⟨S3584x64x1, .bf16⟩
  | .hbm, ⟨20, _⟩ => ⟨S3584x64x128, .bf16⟩
  | .hbm, ⟨21, _⟩ => ⟨S3584x64x128, .bf16⟩
  | .hbm, ⟨22, _⟩ => ⟨S3584x64x1, .bf16⟩
  | .hbm, ⟨23, _⟩ => ⟨S3584x64x128, .bf16⟩
  | .hbm, ⟨24, _⟩ => ⟨S3584x64x128, .bf16⟩
  | .hbm, ⟨25, _⟩ => ⟨S3584x8192, .bf16⟩
  | .hbm, ⟨26, _⟩ => ⟨S256x1x3584, .f32⟩
  | .hbm, ⟨27, _⟩ => ⟨S1x1x3584, .f32⟩
  | .hbm, ⟨28, _⟩ => ⟨S256x1x3584, .f32⟩
  | .hbm, ⟨29, _⟩ => ⟨S256x1x3584, .f32⟩
  | .hbm, ⟨30, _⟩ => ⟨S256x1x3584, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Chunk.lean ====
/- One chunk of the kernel's dequantization, read at an index (hand-written, untrusted). -/
module

public import proofs.«01_k».proof.Proof.Gen.KernelIdeal.Skeleton
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen

/-- The four-bit code in nibble `b` (0 the low one, 1 the high one) of a packed byte, as a 32-bit word: the byte
    zero-extended and masked with 15, or shifted right by 4. -/
def nibble (v : BitVec 8) (b : ℕ) : BitVec 32 :=
  if b < 1 then IntOp.andi (BitVec.setWidth 32 v) 15#32 else IntOp.shrsi .vector (BitVec.setWidth 32 v) 4#32

/-- What the body stores in the scratch for one chunk of 512 packed columns, at row `r` of the chunk and output lane
    `l`: the code of nibble `r % 2` of byte `(l, r / 2)`, minus the zero point, times the scale, of group `r / 128`. -/
theorem pay3_apply (p : Vec Ideal S512x512 .i8) (z s : Vec Ideal S8x512 .bf16) (r : Fin 1024) (l : Fin 512) :
    k0_pay3 (F := Ideal) p z s (ix2 r l)
      = (FloatOps.sitofp (F := Ideal) .bf16 (nibble (p (ix2 l ⟨(r : ℕ) / 2, by omega⟩)) ((r : ℕ) % 2))
          - z (ix2 ⟨(r : ℕ) / 128, by omega⟩ l)) * s (ix2 ⟨(r : ℕ) / 128, by omega⟩ l) := by
  pointwise [k0_pay3]
  rfl

variable (p : Vec Ideal S512x512 .i8) (z s : Vec Ideal S8x512 .bf16)

/-! The other seven chunks' payloads are the first one's, the printed body being cut into parts at other places. -/

/-- Chunk 1's payload is chunk 0's function of what it loads. -/
theorem chunk1_eq : k0_pay6 (k0_pay4 p) (k0_pay5 z) s = k0_pay3 (F := Ideal) p z s := rfl

/-- Chunk 2's payload is chunk 0's function of what it loads. -/
theorem chunk2_eq : k0_pay7 p z s = k0_pay3 (F := Ideal) p z s := rfl

/-- Chunk 3's payload is chunk 0's function of what it loads. -/
theorem chunk3_eq : k0_pay9 (k0_pay8 p) z s = k0_pay3 (F := Ideal) p z s := rfl

/-- Chunk 4's payload is chunk 0's function of what it loads. -/
theorem chunk4_eq : k0_pay13 (k0_pay10 p) (k0_pay11 z) (k0_pay12 s) = k0_pay3 (F := Ideal) p z s := rfl

/-- Chunk 5's payload is chunk 0's function of what it loads. -/
theorem chunk5_eq : k0_pay14 p z s = k0_pay3 (F := Ideal) p z s := rfl

/-- Chunk 6's payload is chunk 0's function of what it loads. -/
theorem chunk6_eq : k0_pay18 (k0_pay16 p) (k0_pay17 p) z s = k0_pay3 (F := Ideal) p z s := rfl

/-- Chunk 7's payload is chunk 0's function of what it loads. -/
theorem chunk7_eq : k0_pay1 (k0_pay19 p z s) = k0_pay3 (F := Ideal) p z s := rfl

end Cert.KernelIdeal.Chunk

end
-- ==== Proof.Body.lean ====
/- What the body of the kernel computes at one grid point: the eight chunks stored in the scratch are the whole dequantized
   weight block, and the output block is the product with it plus the bias (hand-written, untrusted). -/
module

public import proofs.«01_k».proof.Proof.Gen.KernelIdeal.Frame
public import proofs.«01_k».proof.Proof.Chunk
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen

/-- The dequantized weight of packed bytes `P`, zero points `Z` and scales `S` (one block of 512 output columns), at
    contraction index `k` and output lane `l`: the code in nibble `k % 2` of byte `(l, k / 2)`, minus the zero point
    and times the scale of group `k / 128`. -/
def weight (P : Vec Ideal S512x4096 .i8) (Z S : Vec Ideal S64x512 .bf16) (k : Fin 8192) (l : Fin 512) : EReal :=
  (FloatOps.sitofp (F := Ideal) .bf16 (Chunk.nibble (P (ix2 l ⟨(k : ℕ) / 2, by omega⟩)) ((k : ℕ) % 2))
    - Z (ix2 ⟨(k : ℕ) / 128, by omega⟩ l)) * S (ix2 ⟨(k : ℕ) / 128, by omega⟩ l)

/-- The scratch's contents when all eight chunks are stored: `weight` at every row and lane. -/
def scratch (P : Vec Ideal S512x4096 .i8) (Z S : Vec Ideal S64x512 .bf16) : FVec Ideal S8192x512 .bf16 :=
  fun y => weight P Z S (y 0) (y 1)

/-- A chunk's payload is its rows of `scratch`: if the chunk loaded columns `512 j …` of the packed bytes and rows
    `8 j …` of the zero points and the scales, its payload at row `x 0` is `scratch` at row `1024 j + x 0`. -/
theorem chunk_scratch (P : Vec Ideal S512x4096 .i8) (Z S : Vec Ideal S64x512 .bf16)
    (p : Vec Ideal S512x512 .i8) (z s : Vec Ideal S8x512 .bf16) (j : ℕ) (hj : j < 8)
    (hp : ∀ (l k : Fin 512), p (ix2 l k) = P (ix2 l ⟨512 * j + k, by omega⟩))
    (hz : ∀ (g : Fin 8) (l : Fin 512), z (ix2 g l) = Z (ix2 ⟨8 * j + g, by omega⟩ l))
    (hs : ∀ (g : Fin 8) (l : Fin 512), s (ix2 g l) = S (ix2 ⟨8 * j + g, by omega⟩ l))
    (x : S1024x512.Idx) (y : S8192x512.Idx) (h0 : (y 0 : ℕ) = 1024 * j + (x 0 : ℕ)) (h1 : (y 1 : ℕ) = (x 1 : ℕ)) :
    k0_pay3 (F := Ideal) p z s x = scratch P Z S y := by
  idx_vars x
  idx_vars y
  have h0' : (y0 : ℕ) = 1024 * j + (x0 : ℕ) := h0
  obtain rfl : y1 = x1 := Fin.ext h1
  have e2 : 512 * j + (x0 : ℕ) / 2 = (y0 : ℕ) / 2 := by omega
  have eg : 8 * j + (x0 : ℕ) / 128 = (y0 : ℕ) / 128 := by omega
  have em : (x0 : ℕ) % 2 = (y0 : ℕ) % 2 := by omega
  show _ = weight P Z S y0 y1
  rw [Chunk.pay3_apply, hp, hz, hs, weight]
  simp only [e2, eg, em]

variable (m : (ℓ : Loc nD τ sig) → Buf (Elt Ideal) ℓ)

/-- What the body leaves in the output block at point `t`: the final payload of the x block, the whole dequantized
    weight block and the bias block. -/
theorem out_eq (c : Dev nD) (t : Fin cfg0.N) : outsAt0 m c t
    = k0_pay2 (F := Ideal) (iblk m c 0 t) (scratch (iblk m c 1 t) (iblk m c 3 t) (iblk m c 2 t)) (iblk m c 4 t) := by
  unfold outsAt0
  frame_out
  refine congrArg (fun w => k0_pay2 (F := Ideal) (iblk m c 0 t) w (iblk m c 4 t)) ?_
  rw [View.readCov_eq_canon']
  funext y
  rw [show (Rect.unit ![0, 0] ![8192, 512] inb_S8192x512_S8192x512_0_0).toLoadRect.idx y = y from
    congrFun (View.ld_unit_zero (S := S8192x512) (Val := fun _ => S8192x512.Idx) (e := .bf16) (by decide) inb_S8192x512_S8192x512_0_0 id) y]
  canon_tiles x h
  · rw [Chunk.chunk7_eq]; exact chunk_scratch _ _ _ _ _ _ 7 (by decide) (fun _ _ => by pointwise; try blk_ext) (fun _ _ => by pointwise; try blk_ext)
      (fun _ _ => by pointwise; try blk_ext) x y (by omega) (by omega)
  · rw [Chunk.chunk6_eq]; exact chunk_scratch _ _ _ _ _ _ 6 (by decide) (fun _ _ => by pointwise; try blk_ext) (fun _ _ => by pointwise; try blk_ext)
      (fun _ _ => by pointwise; try blk_ext) x y (by omega) (by omega)
  · rw [Chunk.chunk5_eq]; exact chunk_scratch _ _ _ _ _ _ 5 (by decide) (fun _ _ => by pointwise; try blk_ext) (fun _ _ => by pointwise; try blk_ext)
      (fun _ _ => by pointwise; try blk_ext) x y (by omega) (by omega)
  · rw [Chunk.chunk4_eq]; exact chunk_scratch _ _ _ _ _ _ 4 (by decide) (fun _ _ => by pointwise; try blk_ext) (fun _ _ => by pointwise; try blk_ext)
      (fun _ _ => by pointwise; try blk_ext) x y (by omega) (by omega)
  · rw [Chunk.chunk3_eq]; exact chunk_scratch _ _ _ _ _ _ 3 (by decide) (fun _ _ => by pointwise; try blk_ext) (fun _ _ => by pointwise; try blk_ext)
      (fun _ _ => by pointwise; try blk_ext) x y (by omega) (by omega)
  · rw [Chunk.chunk2_eq]; exact chunk_scratch _ _ _ _ _ _ 2 (by decide) (fun _ _ => by pointwise; try blk_ext) (fun _ _ => by pointwise; try blk_ext)
      (fun _ _ => by pointwise; try blk_ext) x y (by omega) (by omega)
  · rw [Chunk.chunk1_eq]; exact chunk_scratch _ _ _ _ _ _ 1 (by decide) (fun _ _ => by pointwise; try blk_ext) (fun _ _ => by pointwise; try blk_ext)
      (fun _ _ => by pointwise; try blk_ext) x y (by omega) (by omega)
  · exact chunk_scratch _ _ _ _ _ _ 0 (by decide) (fun _ _ => by pointwise; try blk_ext) (fun _ _ => by pointwise; try blk_ext)
      (fun _ _ => by pointwise; try blk_ext) x y (by omega) (by omega)

end Cert.KernelIdeal.Body

end
-- ==== Proof.Array.lean ====
/- The array the region returns: the linear layer of its operand arrays, every grid point writing 512 of its columns
   (hand-written, untrusted). -/
module

public import proofs.«01_k».proof.Proof.Body

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen

/-- The linear layer over whole arrays: at token `r` and output column `o`, the sum over the contraction index `k` of
    activation times dequantized weight (byte `(o, k / 2)`, nibble `k % 2`, zero point and scale of group `k / 128`),
    plus the bias of the column. -/
def layer (X : FVec Ideal S256x8192 .bf16) (P : Vec Ideal S3584x4096 .i8) (S Z : FVec Ideal S64x3584 .bf16)
    (B : FVec Ideal S1x3584 .f32) : FVec Ideal S256x3584 .bf16 := fun i =>
  (∑ k : Fin 8192, X (ix2 (i 0) k)
      * ((FloatOps.sitofp (F := Ideal) .bf16 (Chunk.nibble (P (ix2 (i 1) ⟨(k : ℕ) / 2, by omega⟩)) ((k : ℕ) % 2))
          - Z (ix2 ⟨(k : ℕ) / 128, by omega⟩ (i 1))) * S (ix2 ⟨(k : ℕ) / 128, by omega⟩ (i 1))))
    + B (ix2 0 (i 1))

variable (m : (ℓ : Loc nD τ sig) → Buf (Elt Ideal) ℓ)

/-- The windows' block indices at every grid point: the activations whole, the others block `t` along the output columns. -/
theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

/-- What the body leaves at block index `y` of point `t` is `layer` of the operand arrays where `y` sits in the result. -/
theorem point (c : Dev nD) (t : Fin cfg0.N) (y : S256x512.Idx) : outsAt0 m c t y
    = layer (V m c main_v0) (V m c main_arg1) (V m c main_v1) (V m c main_v4) (V m c main_v5)
        (((cfg0.win 5).blk t).view.emb y) := by
  rw [Body.out_eq]
  pointwise [k0_pay2, Body.scratch, Body.weight, layer]
  blk_point [iblk, idx t]

/-- The region's result array after the run: `layer` of the operand arrays. -/
theorem final (c : Dev nD) : (dats m 0 c).arrAt 5 (cfgs 0).N
    = layer (V m c main_v0) (V m c main_arg1) (V m c main_v1) (V m c main_v4) (V m c main_v5) := by
  refine (dats m 0 c).arrAt_eq_of_covers 5 _ (by decide +kernel) fun t _ y => ?_
  blk_simp
  rw [after0_5]
  exact point m c t y

end Cert.KernelIdeal.Array

end
-- ==== Proof.Equation.lean ====
/- @main's result as one function of the arguments, through the host operations before and after the region, and the
   equation with the reference (hand-written, untrusted). -/
module

public import proofs.«01_k».proof.Proof.Array
public import proofs.«01_k».proof.Proof.Gen.ReferenceIdeal.Read

@[expose] public section

set_option maxRecDepth 16384

noncomputable section

namespace Cert.KernelIdeal.Equation

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ)

/-- The kernel's result of the argument arrays: the host's reshapes, transposes and cast of the operands, `layer`, and
    the host's reshape of the result. -/
def result (x : FVec Ideal S256x1x8192 .bf16) (p : Vec Ideal S3584x4096 .i8) (s : FVec Ideal S3584x64 .bf16)
    (z : Vec Ideal S3584x64 .i8) (b : FVec Ideal S3584 .f32) : FVec Ideal S256x1x3584 .bf16 :=
  shapeCast S256x1x3584 (Array.layer (shapeCast S256x8192 x shapeCasts_S256x1x8192_S256x8192) p
    (transpose S64x3584 [1, 0] s transposes_S3584x64_S64x3584_1_0)
    (transpose S64x3584 [1, 0] (sitofp .bf16 (extui 32 z natLt_8_32)) transposes_S3584x64_S64x3584_1_0)
    (shapeCast S1x3584 b shapeCasts_S3584_S1x3584)) shapeCasts_S256x3584_S256x1x3584

/-- The region finds the activations reshaped to rank two, -/
theorem V_main_v0 (c : Dev nD) : V m c main_v0
    = shapeCast S256x8192 (m ((c : Thread nD τ).loc main_arg0)) shapeCasts_S256x1x8192_S256x8192 := by
  show StableHlo.after hostOps0 _ _ = _; after_results; try rfl
/-- the scales transposed, -/
theorem V_main_v1 (c : Dev nD) : V m c main_v1
    = transpose S64x3584 [1, 0] (m ((c : Thread nD τ).loc main_arg2)) transposes_S3584x64_S64x3584_1_0 := by
  show StableHlo.after hostOps0 _ _ = _; after_results; try rfl
/-- the zero points cast and transposed, -/
theorem V_main_v4 (c : Dev nD) : V m c main_v4
    = transpose S64x3584 [1, 0] (sitofp (F := Ideal) .bf16 (extui 32 (m ((c : Thread nD τ).loc main_arg3)) natLt_8_32))
        transposes_S3584x64_S64x3584_1_0 := by
  show StableHlo.after hostOps0 _ _ = _; after_results; try rfl
/-- and the bias as one row. -/
theorem V_main_v5 (c : Dev nD) : V m c main_v5
    = shapeCast S1x3584 (m ((c : Thread nD τ).loc main_arg4)) shapeCasts_S3584_S1x3584 := by
  show StableHlo.after hostOps0 _ _ = _; after_results; try rfl

/-- What @main leaves in its result buffer, through the region and the reshape after it: `result` of the arguments. -/
theorem result_eq (c : Dev nD) : Pipeline.afterTail₀ cfgs (dats m) 0 (V0 m) [hostOps1] c main_v7
    = result (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  have h := Pipeline.withArrays_arr spec0 launch0.win.arr_inj c (V0 m c) (fun w => (dats m 0 c).arrAt w (cfgs 0).N) 5
  rw [Array.final, V_main_v0, V_main_v1, V_main_v4, V_main_v5, V_main_arg1] at h
  show StableHlo.after hostOps1 _ _ = _
  after_results
  exact congrArg (fun v => shapeCast S256x1x3584 v shapeCasts_S256x3584_S256x1x3584) h

/-- The reference's shift is the kernel's: the amount 4 is in range on either unit. -/
theorem shrsi_host (v : BitVec 32) : IntOp.shrsi .host v 4#32 = IntOp.shrsi .vector v 4#32 := by
  unfold IntOp.shrsi
  rw [if_pos (by decide), if_pos (by decide)]

/-- The kernel's result at an index is the reference's: the same sum over the contraction index, the reference reading
    the code, the zero point and the scale of weight `(o, k)` where the kernel does. -/
theorem result_eq_ref (x : FVec Ideal S256x1x8192 .bf16) (p : Vec Ideal S3584x4096 .i8) (s : FVec Ideal S3584x64 .bf16)
    (z : Vec Ideal S3584x64 .i8) (b : FVec Ideal S3584 .f32) :
    result x p s z b = Cert.ReferenceIdeal.Read.val_main_v23 (F := Ideal) x p s z b := by
  funext i
  idx_vars i
  pointwise [result, Array.layer, val_main_v0, val_main_c, val_main_v1, val_main_v2, val_main_c_0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23]
  obtain rfl : i1 = 0 := Subsingleton.elim _ _
  refine Ideal.add_congr (Finset.sum_congr rfl fun k _ => ?_) rfl
  have e2 : (k : ℕ) / 128 * 64 + (k : ℕ) % 128 / 2 = (k : ℕ) / 2 := by omega
  have em : (k : ℕ) % 128 % 2 = (k : ℕ) % 2 := by omega
  simp only [e2, em, shrsi_host, Chunk.nibble]
  rfl

end Cert.KernelIdeal.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- `Cert.quiescent_Kernel`: the generated frame of the kernel, at `Bits`. -/
theorem frame_kernel : Cert.quiescent_Kernel := fun m ρ _ => Cert.Kernel.Gen.frame m ρ

/-- `Cert.quiescent_KernelIdeal`: the generated frame of its idealization, at `Ideal`. -/
theorem frame_kernelIdeal : Cert.quiescent_KernelIdeal := fun m ρ _ => Cert.KernelIdeal.Gen.frame m ρ

/-- `Cert.quiescent_ReferenceIdeal`: the reference's run read at the arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- `Cert.preserves_Kernel_KernelIdeal`: the ideal pass rewrote nothing. -/
theorem preserves : Cert.preserves_Kernel_KernelIdeal := trivial

/-- The idealized kernel's run, read: @main's result is `Equation.result` of the arguments, which end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v7)
          = Cert.KernelIdeal.Equation.result
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨
      ((h.1 c).2 Cert.KernelIdeal.main_v7 (Pipeline.mem_restRefs_of Cert.KernelIdeal.main_v7 (by decide) (by decide))).trans
        (Cert.KernelIdeal.Equation.result_eq m c), h.2 c⟩)
    (θ_run_and (Cert.KernelIdeal.Gen.run_main (F := Ideal) m ρ) (Cert.KernelIdeal.Gen.unchanged (F := Ideal) m ρ))

/-- `Cert.algebraic_KernelIdeal_ReferenceIdeal`: from memories that agree on the arguments, the kernel's result is
    `Equation.result` of them, the reference's its composed term, and the two are one function of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.Equation.result_eq_ref, Cert.ReferenceIdeal.Read.val_main_v23_eq,
    (hagree c).1, (hagree c).2.1, (hagree c).2.2.1, (hagree c).2.2.2.1, (hagree c).2.2.2.2]

/-- Everything the certificate claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
